-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_threshold_is_a_float32 [hPre_threshold_is_a_float32 : Cert.Pre_threshold_is_a_float32.Facts] (m : (ℓ : Loc Cert.KernelIdeal.nD Cert.KernelIdeal.τ Cert.KernelIdeal.sig) → Buf (Elt Ideal) ℓ) : Prop :=
  ∀ c : Dev Cert.KernelIdeal.nD,
    (Cert.Pre_threshold_is_a_float32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_threshold_is_a_float32 [hPre_threshold_is_a_float32 : Cert.Pre_threshold_is_a_float32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_threshold_is_a_float32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_threshold_is_a_float32 [hKernelIdeal : Cert.KernelIdeal.Facts] [hPre_threshold_is_a_float32 : Cert.Pre_threshold_is_a_float32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_threshold_is_a_float32 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_threshold_is_a_float32 [hReferenceIdeal : Cert.ReferenceIdeal.Facts] [hPre_threshold_is_a_float32 : Cert.Pre_threshold_is_a_float32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_threshold_is_a_float32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_threshold_is_a_float32 [hKernelIdeal : Cert.KernelIdeal.Facts] [hReferenceIdeal : Cert.ReferenceIdeal.Facts] [hPre_threshold_is_a_float32 : Cert.Pre_threshold_is_a_float32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_threshold_is_a_float32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_threshold_is_a_float32 : Cert.Pre_threshold_is_a_float32.Facts),
    quiescent_Kernel (hKernel := hKernel)
    ∧ quiescent_KernelIdeal (hKernelIdeal := hKernelIdeal)
    ∧ quiescent_KernelIdeal_pre_threshold_is_a_float32 (hKernelIdeal := hKernelIdeal) (hPre_threshold_is_a_float32 := hPre_threshold_is_a_float32)
    ∧ quiescent_ReferenceIdeal (hReferenceIdeal := hReferenceIdeal)
    ∧ quiescent_ReferenceIdeal_pre_threshold_is_a_float32 (hReferenceIdeal := hReferenceIdeal) (hPre_threshold_is_a_float32 := hPre_threshold_is_a_float32)
    ∧ preserves_Kernel_KernelIdeal
    ∧ algebraic_KernelIdeal_ReferenceIdeal_pre_threshold_is_a_float32 (hKernelIdeal := hKernelIdeal) (hReferenceIdeal := hReferenceIdeal) (hPre_threshold_is_a_float32 := hPre_threshold_is_a_float32)
-- ==== Pre_threshold_is_a_float32.lean ====
abbrev S64x8192 : Shape := ⟨2, ![64, 8192]⟩
abbrev S524288 : Shape := ⟨1, ![524288]⟩
abbrev S471860 : Shape := ⟨1, ![471860]⟩
abbrev S1 : Shape := ⟨1, ![1]⟩
abbrev S_ : Shape := ⟨0, ![]⟩
abbrev S2139095041 : Shape := ⟨1, ![2139095041]⟩

class Facts : Prop where
  shapeCasts_S64x8192_S524288 : S64x8192.ShapeCasts S524288
  sliceFits_S524288_S471860 : S524288.Slices (fun _ => 0) S471860
  slices_S471860_S1_471859 : S471860.Slices ![471859] S1
  shapeCasts_S1_S_ : S1.ShapeCasts S_
  bcast_S_S2139095041 : S_.BroadcastsInDim S2139095041 (![] : Fin 0 → Fin S2139095041.rank)
  reducesTo_S2139095041_S_d0 : S2139095041.ReducesTo [0] S_
  h_S_ : 0 < S_.numel

variable [Facts]

def fn {F : FTy → Type} [FloatOps F] (main_arg0 : FVec F S64x8192 .f32) (main_arg1 : FVec F S64x8192 .f32) : IVec S_ 1 :=
  let main_v0 : FVec F S64x8192 .f32 := subf main_arg0 main_arg1
  let main_v1 : FVec F S64x8192 .f32 := Host.absf main_v0
  let main_v2 : FVec F S524288 .f32 := shapeCast S524288 main_v1 shapeCasts_S64x8192_S524288
  let main_v3 : FVec F S524288 .f32 := Host.negf main_v2
  let main_values : FVec F S471860 .f32 := (fun x => (Host.topK S471860 0 (FloatOps.cmpfTotal .gt) x sliceFits_S524288_S471860).1) main_v3
  let main_indices : IVec S471860 32 := (fun x => (Host.topK S471860 0 (FloatOps.cmpfTotal .gt) x sliceFits_S524288_S471860).2) main_v3
  let main_v4 : FVec F S1 .f32 := (extractStridedSlice S1 ![471859] · slices_S471860_S1_471859) main_values
  let main_v5 : FVec F S_ .f32 := shapeCast S_ main_v4 shapeCasts_S1_S_
  let main_v6 : FVec F S_ .f32 := Host.negf main_v5
  let main_v7 : IVec S2139095041 32 := iotaInDim S2139095041 32 0
  let main_v8 : FVec F S2139095041 .f32 := bitcastToFloat .f32 main_v7
  let main_v9 : FVec F S2139095041 .f32 := broadcastInDim S2139095041 ![] bcast_S_S2139095041 main_v6
  let main_v10 : IVec S2139095041 1 := cmpf .oeq main_v8 main_v9
  let main_c : IVec S_ 1 := constantI S_ 1 0#1
  let main_v11 : IVec S_ 1 := (fun x v => Host.reduce IntOp.ori x v reducesTo_S2139095041_S_d0 h_S_) main_v10 main_c
  main_v11
-- ==== Kernel.lean ====
abbrev S64x8192 : Shape := ⟨2, ![64, 8192]⟩
abbrev S1x1 : Shape := ⟨2, ![1, 1]⟩
abbrev S1x64x8192 : Shape := ⟨3, ![1, 64, 8192]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 3
  | .smem => 1
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S1x1, .f32⟩
  | .hbm, ⟨3, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .smem, ⟨0, _⟩ => ⟨S1x1, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c31_i32 : BitVec 32 := 31#32
  let v7 : BitVec 32 := Scalar.addi c0_i32_5 c31_i32
  let c1_i32 : BitVec 32 := 1#32
  ⟨c0_i32_5, v7, c1_i32⟩
abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x8192 : Shape := ⟨2, ![64, 8192]⟩
abbrev S524288 : Shape := ⟨1, ![524288]⟩
abbrev S471860 : Shape := ⟨1, ![471860]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S64x8192, .f32⟩
  | .hbm, ⟨3, _⟩ => ⟨S64x8192, .f32⟩
  | .hbm, ⟨4, _⟩ => ⟨S524288, .f32⟩
  | .hbm, ⟨5, _⟩ => ⟨S524288, .f32⟩
  | .hbm, ⟨6, _⟩ => ⟨S471860, .f32⟩
  | .hbm, ⟨7, _⟩ => ⟨S471860, .i32⟩
  | .hbm, ⟨8, _⟩ => ⟨S471860, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_values : Ref sig .tc := ⟨.hbm, 6, rfl⟩
abbrev main_indices : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Trip.lean ====
/-
  What the kernel's body computes: one trip of the word search written out, the carried pair after any number of trips,
  and what the body leaves in its result cell.
-/
module

public import proofs.«01_k».proof.Proof.Gen.KernelIdeal.Frame
public import Idealize.ShloMosaic.Lib.Pipeline.Value
public import Idealize.ShloMosaic.Lib.Pipeline.ValueKit.Geometry
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pipeline (Dat)

namespace Cert.Trim

open Cert.KernelIdeal Cert.KernelIdeal.Gen

variable {F : FTy → Type} [FloatOps F]

/-- The middle of the interval `[lo, hi]` as the kernel computes it: `lo` plus half the difference, rounded down. -/
def mid (lo hi : BitVec 32) : BitVec 32 :=
  let d : BitVec 32 := Scalar.subi hi lo
  let q : BitVec 32 := Scalar.divsi d 2#32
  let sd : BitVec 32 := Scalar.subi (Scalar.extui (Scalar.cmpi .sgt d 0#32)) (Scalar.extui (Scalar.cmpi .slt d 0#32))
  Scalar.addi lo (Scalar.select (Scalar.andi (Scalar.cmpi .ne sd 1#32) (Scalar.cmpi .ne (Scalar.remsi d 2#32) 0#32)) (Scalar.subi q 1#32) q)

/-- One trip of the search over the residuals `r`: keep the lower half when enough residuals are at most the middle's
    value, the upper half otherwise. -/
def trip (r : Vec F S64x8192 .f32) (p : BitVec 32 × BitVec 32) : BitVec 32 × BitVec 32 :=
  let b : BitVec 1 := Scalar.cmpi .sge (extractAt ![0, 0, 0] (k0_pay2 p.1 p.2 r) inpos_S1x1x1_p0_0_0) 471860#32
  (Scalar.select b p.1 (Scalar.addi (mid p.1 p.2) 1#32), Scalar.select b (mid p.1 p.2) p.2)

/-- The two zero offsets of a whole read. -/
theorem hz : (![0, 0] : Fin 2 → Nat) = fun _ => 0 := funext fun a => by fin_cases a <;> rfl

/-- The trip that the body's run yields is `trip` of the buffer's contents. -/
theorem tripR_eq (𝒱 : Variants) (c : Dev nD) (bd : Option 𝒱.V) (arg0 : Memref sig .tc .vmem S64x8192 .f32) (harg0 : arg0.IsWhole) (arg1 : Memref sig .tc .vmem S64x8192 .f32) (harg1 : arg1.IsWhole) (arg2 : Memref sig .tc .smem S1x1 .f32) (harg2 : arg2.IsWhole) (arg3 : Memref sig .tc .vmem S64x8192 .f32) (harg3 : arg3.IsWhole) (X : BufTy.Contents (Elt F) arg3.view.ty) (k : Fin k0_t1_loop.trips) (acc : BitVec 32 × BitVec 32) :
    tripR_k0_t1 (F := F) 𝒱 c bd arg0 harg0 arg1 harg1 arg2 harg2 arg3 harg3 X k acc = trip (arg3.view.read (Elt F) X) acc := by
  unfold tripR_k0_t1 trip_k0_t1
  dsimp only
  unfold trip mid
  sl_unfold_words
  simp only [View.readAt_eq_ld, View.ld_unit_zero (S := S64x8192) hz]

/-- The pair carried after `n` trips is `trip` iterated. -/
theorem st_eq (𝒱 : Variants) (c : Dev nD) (bd : Option 𝒱.V) (arg0 : Memref sig .tc .vmem S64x8192 .f32) (harg0 : arg0.IsWhole) (arg1 : Memref sig .tc .vmem S64x8192 .f32) (harg1 : arg1.IsWhole) (arg2 : Memref sig .tc .smem S1x1 .f32) (harg2 : arg2.IsWhole) (arg3 : Memref sig .tc .vmem S64x8192 .f32) (harg3 : arg3.IsWhole) (X : BufTy.Contents (Elt F) arg3.view.ty) (p : BitVec 32 × BitVec 32) :
    ∀ n : ℕ, n ≤ k0_t1_loop.trips →
      st_k0_t1 (F := F) 𝒱 c bd arg0 harg0 arg1 harg1 arg2 harg2 arg3 harg3 X p n = (trip (arg3.view.read (Elt F) X))^[n] p
  | 0, _ => rfl
  | n + 1, h => by
    rw [st_k0_t1_succ 𝒱 c bd arg0 harg0 arg1 harg1 arg2 harg2 arg3 harg3 X p ⟨n, h⟩, tripR_eq, Function.iterate_succ_apply',
      st_eq 𝒱 c bd arg0 harg0 arg1 harg1 arg2 harg2 arg3 harg3 X p n (Nat.le_of_succ_le h)]

/-- The absolute differences of the two arrays, element by element. -/
def resid (x0 x1 : Vec F S64x8192 .f32) : Vec F S64x8192 .f32 := absf (subf x0 x1)

/-- The lower end of the interval after the 31 trips. -/
def found (r : Vec F S64x8192 .f32) : BitVec 32 := ((trip r)^[31] (0#32, 2139095040#32)).1

/-- What the body stores before the search: the residuals. -/
theorem pay1_eq (x0 x1 : Vec F S64x8192 .f32) : k0_pay1 x0 x1 = resid x0 x1 := by
  unfold k0_pay1 resid
  simp only [shapeCast_self]

/-- What the body leaves in its result cell. -/
theorem out_A (c : Dev nD) (arg0 : Memref sig .tc .vmem S64x8192 .f32) (harg0 : arg0.IsWhole) (arg1 : Memref sig .tc .vmem S64x8192 .f32) (harg1 : arg1.IsWhole) (arg2 : Memref sig .tc .smem S1x1 .f32) (harg2 : arg2.IsWhole) (arg3 : Memref sig .tc .vmem S64x8192 .f32) (harg3 : arg3.IsWhole)
    (x0 : Vec F S64x8192 .f32) (x1 : Vec F S64x8192 .f32) :
    out0_A_2 c arg0 harg0 arg1 harg1 arg2 harg2 arg3 harg3 x0 x1 = fun _ => k0_pay3 (found (resid x0 x1)) (resid x0 x1) := by
  unfold out0_A_2
  rw [View.read_writes_eq_canon _ _ _ (cover0_A_2 c arg0 harg0 arg1 harg1 arg2 harg2 arg3 harg3 x0 x1)]
  unfold kernelRun0_A
  dsimp only
  sl_unfold_words
  rw [View.canon_cons_unit_zero (S := S1x1) hz, View.readCov_unit_zero (S := S64x8192) _ hz]
  rw [st_eq _ _ _ _ _ _ _ _ _ _ _ _ _ _ (by decide)]
  simp only [View.readAt_eq_ld, harg0.read_unread, harg1.read_unread, View.ld_unit_zero (S := S64x8192) hz, pay1_eq]
  rw [View.read_writes_eq_canon]
  · rw [View.canon_cons_unit_zero (S := S64x8192) hz]
    rfl
  · intro y
    refine ⟨_, List.mem_singleton.2 rfl, ?_⟩
    rw [Rect.mem_set_unit, hz]
    exact fun a => ⟨Nat.zero_le _, by rw [Nat.zero_add]; exact (y a).isLt⟩

variable (m : (ℓ : Loc nD τ sig) → Buf (Elt F) ℓ) (ρ : Dev nD → PrngReg)

/-- The first input block is the first argument array. -/
theorem iblk0_eq (c : Dev nD) : (iblk m c 0 t0_0 : Vec F S64x8192 .f32) = (m ((c.tc : Thread nD τ).loc main_arg0) : Vec F S64x8192 .f32) := by
  have hz' : (fun a => win0_0.index t0_0 a * main_arg0.ty.shape.size a) = fun _ => 0 := funext fun a => by fin_cases a <;> decide
  exact Memref.read_access_unit_zero (Elt F) main_arg0 hz' (fun a => by rw [congrFun hz' a]; simp) (m ((c.tc : Thread nD τ).loc main_arg0))

/-- The second input block is the second argument array. -/
theorem iblk1_eq (c : Dev nD) : (iblk m c 1 t0_0 : Vec F S64x8192 .f32) = (m ((c.tc : Thread nD τ).loc main_arg1) : Vec F S64x8192 .f32) := by
  have hz' : (fun a => win0_1.index t0_0 a * main_arg1.ty.shape.size a) = fun _ => 0 := funext fun a => by fin_cases a <;> decide
  exact Memref.read_access_unit_zero (Elt F) main_arg1 hz' (fun a => by rw [congrFun hz' a]; simp) (m ((c.tc : Thread nD τ).loc main_arg1))

/-- The residuals of core `c`'s two argument arrays. -/
abbrev res (c : Dev nD) : Vec F S64x8192 .f32 :=
  resid (m ((c.tc : Thread nD τ).loc main_arg0) : Vec F S64x8192 .f32) (m ((c.tc : Thread nD τ).loc main_arg1) : Vec F S64x8192 .f32)

/-- The one-cell result array ends at the body's final scalar of the residuals. -/
theorem final_o (c : Dev nD) : (dats m 0 c).arrAt 2 cfg0.N = ((fun _ => k0_pay3 (found (res m c)) (res m c)) : Vec F S1x1 .f32) := by
  refine (dats m 0 c).arrAt_eq_of_after_last 2 t0_0 (by decide +kernel) _ fun j => ?_
  rw [after0_2]
  unfold outsAt0
  rw [out_A, iblk0_eq, iblk1_eq]
  rfl

/-- The kernel's run: its result is the body's final scalar of the residuals. -/
theorem kernel_run : θ_run defs (onTc (τ := τ) (main (F := F))) ⟨m, fun _ => 0, ρ⟩ fun r => ∀ c : Dev nD,
    r.2.mem ((c.tc : Thread nD τ).loc main_v1) = ((fun _ => k0_pay3 (found (res m c)) (res m c)) : Vec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by
      refine (h.1.rest_eq c main_v1 (by decide)).trans ?_
      unfold Pipeline.afterTail₀
      simp only [List.flatten_cons, List.flatten_nil, List.append_nil]
      after_results
      funext i
      have e := Pipeline.withArrays_arr (cfgs 0).spec launch0.win.arr_inj c (V0 m c) (fun w => (dats m 0 c).arrAt w (cfgs 0).N) 2
      have e' : Pipeline.withArrays (cfgs 0).spec c (V0 m c) (fun w => (dats m 0 c).arrAt w (cfgs 0).N) (Proc.tc.devRef main_v0)
          = ((fun _ => k0_pay3 (found (res m c)) (res m c)) : Vec F S1x1 .f32) := e.trans (final_o m c)
      rw [e']
      rfl,
    (h.2.1 c).1, (h.2.1 c).2⟩) (θ_run_and (run_main m ρ) (frame m ρ))

end Cert.Trim

end
-- ==== Proof.Order.lean ====
/-
  Order statistics of finitely many extended reals: the sum of the smallest ones by a threshold, counts below and up to
  the threshold, and why a threshold found by counting is the right one.
-/
module

public import Mathlib.Data.EReal.Operations
public import Mathlib.Algebra.BigOperators.Fin
public import Mathlib.Data.Fintype.BigOperators

@[expose] public section

namespace Cert.Trim

open scoped BigOperators

variable {ι : Type*} [Fintype ι]

/-- How many of the values are at most `v`. -/
noncomputable def cntLe (r : ι → EReal) (v : EReal) : ℕ := (Finset.univ.filter fun i => r i ≤ v).card

/-- How many of the values are below `v`. -/
noncomputable def cntLt (r : ι → EReal) (v : EReal) : ℕ := (Finset.univ.filter fun i => r i < v).card

/-- No count exceeds the number of values. -/
theorem cntLe_le_card (r : ι → EReal) (v : EReal) : cntLe r v ≤ Fintype.card ι := Finset.card_filter_le _ _

/-- No count exceeds the number of values. -/
theorem cntLt_le_card (r : ι → EReal) (v : EReal) : cntLt r v ≤ Fintype.card ι := Finset.card_filter_le _ _

/-- More values are at most a larger bound. -/
theorem cntLe_mono (r : ι → EReal) {v t : EReal} (h : v ≤ t) : cntLe r v ≤ cntLe r t :=
  Finset.card_le_card fun i hi => by
    rw [Finset.mem_filter] at hi ⊢
    exact ⟨hi.1, hi.2.trans h⟩

/-- Every value is at most `⊤`. -/
theorem cntLe_top (r : ι → EReal) : cntLe r ⊤ = Fintype.card ι := by
  unfold cntLe
  rw [Finset.filter_true_of_mem fun i _ => le_top, Finset.card_univ]

/-- The values at most `v` are below anything larger than `v`. -/
theorem cntLe_le_cntLt (r : ι → EReal) {v t : EReal} (h : v < t) : cntLe r v ≤ cntLt r t :=
  Finset.card_le_card fun i hi => by
    rw [Finset.mem_filter] at hi ⊢
    exact ⟨hi.1, hi.2.trans_lt h⟩

section sorted

variable {N : ℕ} {r : ι → EReal} {τ : Fin N → ι} (hτ : Function.Bijective τ) (hm : Monotone fun k => r (τ k))

include hτ hm

/-- In ascending order, fewer than `k + 1` values are below the one at position `k`. -/
theorem cntLt_le_pos (k : Fin N) : cntLt r (r (τ k)) ≤ k.val := by
  classical
  have h : (Finset.univ.filter fun i => r i < r (τ k)) ⊆ (Finset.Iio k).image τ := by
    intro i hi
    obtain ⟨j, rfl⟩ := hτ.2 i
    rw [Finset.mem_filter] at hi
    refine Finset.mem_image_of_mem _ (Finset.mem_Iio.2 ?_)
    by_contra hjk
    exact absurd hi.2 (not_lt.2 (hm (not_lt.1 hjk)))
  calc cntLt r (r (τ k)) ≤ ((Finset.Iio k).image τ).card := Finset.card_le_card h
    _ ≤ (Finset.Iio k).card := Finset.card_image_le
    _ = k.val := by simp

/-- In ascending order, at least `k + 1` values are at most the one at position `k`. -/
theorem pos_lt_cntLe (k : Fin N) : k.val < cntLe r (r (τ k)) := by
  classical
  have h : (Finset.Iic k).image τ ⊆ Finset.univ.filter fun i => r i ≤ r (τ k) := by
    intro i hi
    obtain ⟨j, hj, rfl⟩ := Finset.mem_image.1 hi
    exact Finset.mem_filter.2 ⟨Finset.mem_univ _, hm (Finset.mem_Iic.1 hj)⟩
  calc k.val < (Finset.Iic k).card := by simp
    _ = ((Finset.Iic k).image τ).card := (Finset.card_image_of_injective _ hτ.1).symm
    _ ≤ _ := Finset.card_le_card h

/-- The sum of the values at positions up to `k` in ascending order is the sum of the values below the one at position
    `k`, and that value once for each of the remaining positions. -/
theorem sum_le_pos (k : Fin N) :
    ∑ j ∈ Finset.Iic k, r (τ j) = (∑ i, if r i < r (τ k) then r i else 0) + (k.val + 1 - cntLt r (r (τ k))) • r (τ k) := by
  classical
  set t := r (τ k) with ht
  have hsplit : ∀ j ∈ Finset.Iic k, r (τ j) = (if r (τ j) < t then r (τ j) else 0) + if r (τ j) < t then 0 else t := by
    intro j hj
    by_cases h : r (τ j) < t
    · rw [if_pos h, if_pos h, add_zero]
    · rw [if_neg h, if_neg h, zero_add]
      exact le_antisymm (hm (Finset.mem_Iic.1 hj)) (not_lt.1 h)
  have hpos : ∀ j, r (τ j) < t → j ∈ Finset.Iic k := fun j hj => Finset.mem_Iic.2 (by
    by_contra hjk
    exact absurd hj (not_lt.2 (hm (not_le.1 hjk).le)))
  rw [Finset.sum_congr rfl hsplit, Finset.sum_add_distrib]
  congr 1
  · rw [← (Equiv.ofBijective τ hτ).sum_comp]
    refine Finset.sum_subset (Finset.subset_univ _) fun j _ hj => ?_
    exact if_neg fun h => hj (hpos j h)
  · have hc : cntLt r t = ((Finset.Iic k).filter fun j => r (τ j) < t).card := by
      unfold cntLt
      rw [← Finset.card_image_of_injective _ hτ.1]
      congr 1
      ext i
      obtain ⟨j, rfl⟩ := hτ.2 i
      simp only [Finset.mem_filter, Finset.mem_univ, true_and, Finset.mem_image]
      exact ⟨fun h => ⟨j, ⟨hpos j h, h⟩, rfl⟩, fun ⟨j', h, e⟩ => e ▸ h.2⟩
    have hk : (Finset.Iic k).card = k.val + 1 := by simp
    have hs := Finset.card_filter_add_card_filter_not (s := Finset.Iic k) (fun j => r (τ j) < t)
    rw [Finset.sum_ite, Finset.sum_const_zero, zero_add, Finset.sum_const]
    congr 1
    omega

/-- A value `v` up to which more than `k` values lie, and which is at most the value at position `k`, is that value. -/
theorem eq_of_cntLe (k : Fin N) {v : EReal} (hv : k.val < cntLe r v) (hle : v ≤ r (τ k)) : v = r (τ k) := by
  by_contra hne
  have := cntLe_le_cntLt r (lt_of_le_of_ne hle hne)
  have := cntLt_le_pos hτ hm k
  omega

end sorted

end Cert.Trim
-- ==== Proof.Words.lean ====
/-
  The non-negative float32 words, from 0 to that of +inf, read as extended reals: they are ordered as their words are.
-/
module

public import Idealize.ShloMosaic.Lib.TotalOrder
public import Idealize.ShloMosaic.PureOps.Ideal

@[expose] public section

namespace Cert.Trim

open Idealize.ShloMosaic

/-- The extended real that a float32 word denotes. -/
noncomputable def val (w : BitVec 32) : EReal := Ideal.ofBits .f32 w

/-- The word of +inf, as a natural number. -/
abbrev infWord : ℕ := 2139095040

/-- A word up to that of +inf has its sign clear: its magnitude is its number. -/
theorem mag_eq (w : BitVec 32) (h : w.toNat ≤ infWord) : TotalOrder.mag 8 23 w = w.toNat := by
  unfold TotalOrder.mag
  rw [TotalOrder.expo_eq, TotalOrder.frac_eq]
  unfold infWord at h
  omega

/-- A word up to that of +inf is no NaN. -/
theorem not_isNaN (w : BitVec 32) (h : w.toNat ≤ infWord) : ¬TotalOrder.IsNaN 8 23 w := by
  unfold TotalOrder.IsNaN
  rw [TotalOrder.expo_eq, TotalOrder.frac_eq]
  unfold infWord at h
  omega

/-- The value of a word up to that of +inf is its absolute value. -/
theorem val_eq (w : BitVec 32) (h : w.toNat ≤ infWord) : val w = TotalOrder.absVal 8 23 w := by
  unfold val
  rw [show Ideal.ofBits .f32 w = Ideal.ieee 8 23 w from rfl, TotalOrder.ieee_eq_signed_absVal (not_isNaN w h), if_neg]
  intro hs
  have h1 : (w.extractLsb' (8 + 23) 1).toNat = 1 := by rw [eq_of_beq hs]; rfl
  rw [BitVec.extractLsb'_toNat, Nat.shiftRight_eq_div_pow] at h1
  unfold infWord at h
  omega

/-- A larger word denotes a value at least as large. -/
theorem val_mono {a b : BitVec 32} (hab : a.toNat ≤ b.toNat) (hb : b.toNat ≤ infWord) : val a ≤ val b := by
  have ha := hab.trans hb
  rw [val_eq a ha, val_eq b hb]
  refine not_lt.1 fun h => ?_
  rw [TotalOrder.absVal_lt_absVal_iff (not_isNaN b hb) (not_isNaN a ha), mag_eq b hb, mag_eq a ha] at h
  omega

/-- The word of +inf denotes the top element. -/
theorem val_inf : val 2139095040#32 = ⊤ := by
  rw [val_eq _ (by decide)]
  exact if_pos (by decide)

end Cert.Trim
-- ==== Proof.Payload.lean ====
/-
  The body's arithmetic over the extended reals: the counts are the numbers of residuals at most, or below, a value; the
  final scalar is the sum below the threshold plus the threshold for the remaining kept residuals, over their number.
-/
module

public import proofs.«01_k».proof.Proof.Trip
public import proofs.«01_k».proof.Proof.Order
public import proofs.«01_k».proof.Proof.Words
public import Idealize.ShloMosaic.Lib.IndicatorCount
public import Idealize.ShloMosaic.Lib.StableHlo.Predicate

@[expose] public section

noncomputable section

open Idealize.ShloMosaic Idealize.SL.Sem
open scoped BigOperators

namespace Cert.Trim

open Cert.KernelIdeal Cert.KernelIdeal.Gen

section generic

variable {s u t v : Shape} {axes : List (Fin u.rank)} [Subsingleton t.Idx]

/-- The number of ones of an array of bits, counted by widening, re-shaping, summing over axes down to one cell and
    reading that cell. -/
theorem count_gen (p : IVec s 1) (hn : 1 < 32) (hc : s.ShapeCasts u) (hr : u.Reduces axes t) (ha : (0#32 : BitVec 32) = IKind.add.neutral)
    (hv : t.ShapeCasts v) (pos : Fin v.rank → Nat) (hp : ∀ a, pos a < v.size a) :
    extractAt pos (shapeCast v (multiReductionI .add axes t (shapeCast u (extui 32 p hn) hc) 0#32 hr ha) hv) hp
      = BitVec.ofNat 32 (Finset.univ.filter fun i => p i = 1#1).card := by
  unfold extractAt
  generalize (fun a => _ : v.Idx) = z
  refine (multiReductionI_eq_fold .add (shapeCast u (extui 32 p hn) hc) 0#32 hr ha (Shape.reshapeEquiv hv z)).trans ?_
  rw [Finset.filter_true_of_mem fun i _ => Subsingleton.elim _ _]
  refine (IndicatorCount.fold_addi_setWidth_eq_card (fun k => p (Shape.reshapeEquiv hc k)) Finset.univ).trans ?_
  congr 1
  exact Finset.card_equiv (Shape.reshapeEquiv hc) fun i => by simp

/-- The sum of an array, taken by re-shaping, summing over axes down to one cell and reading that cell. -/
theorem sum_gen (x : FVec Ideal s .f32) (hc : s.ShapeCasts u) (hr : u.Reduces axes t) (hφ : FKind.Formats .f32)
    (ha : (0x00000000#32 : BitVec 32) = FKind.add.neutral .f32 hφ)
    (hv : t.ShapeCasts v) (pos : Fin v.rank → Nat) (hp : ∀ a, pos a < v.size a) :
    extractAt pos (shapeCast v (multiReduction .add axes t (shapeCast u x hc) 0x00000000#32 hr hφ ha) hv) hp = ∑ i, x i := by
  unfold extractAt
  generalize (fun a => _ : v.Idx) = z
  show ∑ i ∈ Finset.univ.filter (fun i => hr.drop i = Shape.reshapeEquiv hv z), x (Shape.reshapeEquiv hc i) = _
  rw [Finset.filter_true_of_mem fun i _ => Subsingleton.elim _ _]
  exact (Shape.reshapeEquiv hc).sum_comp x

end generic

/-- An array of one element has one index. -/
instance : Subsingleton S1.Idx := ⟨fun a b => funext fun k => by
  have hk : k = (0 : Fin 1) := Subsingleton.elim _ _
  subst hk
  exact Subsingleton.elim (α := Fin 1) _ _⟩

/-- The bit of a proposition is 1 when it holds. -/
theorem ofBool_one {p : Prop} [Decidable p] : BitVec.ofBool (decide p) = 1#1 ↔ p := by
  by_cases h : p <;> simp [h]

/-- Counting the places where a comparison `≤` of an array with one value holds. -/
theorem card_ole {s : Shape} (r : FVec Ideal s .f32) (v : EReal) :
    (Finset.univ.filter fun i => cmpf .ole r (broadcast s (α := Ideal .f32) v) i = 1#1).card = cntLe r v :=
  congrArg Finset.card (Finset.filter_congr fun _ _ => ofBool_one)

/-- Counting the places where a comparison `<` of an array with one value holds. -/
theorem card_olt {s : Shape} (r : FVec Ideal s .f32) (v : EReal) :
    (Finset.univ.filter fun i => cmpf .olt r (broadcast s (α := Ideal .f32) v) i = 1#1).card = cntLt r v :=
  congrArg Finset.card (Finset.filter_congr fun _ _ => ofBool_one)

/-- Summing an array with zero in the places not below one value. -/
theorem sum_olt {s : Shape} (r : FVec Ideal s .f32) (v : EReal) :
    ∑ i, select (cmpf .olt r (broadcast s (α := Ideal .f32) v)) r (broadcast s (Scalar.ofBits .f32 0x00000000#32)) i
      = ∑ i, if r i < v then r i else 0 :=
  Finset.sum_congr rfl fun i _ => by
    have h0 : (Scalar.ofBits .f32 0x00000000#32 : Ideal .f32) = 0 := by
      show Ideal.ieee 8 23 0#32 = 0
      simp [Ideal.ieee]
    show (if BitVec.ofBool (decide (r i < v)) = 1#1 then r i else (Scalar.ofBits .f32 0x00000000#32 : Ideal .f32)) = _
    rw [h0]
    simp only [ofBool_one]

/-- The count a trip compares: how many residuals are at most the middle word's value. -/
theorem pay2_eq (lo hi : BitVec 32) (r : Vec Ideal S64x8192 .f32) :
    extractAt ![0, 0, 0] (k0_pay2 lo hi r) inpos_S1x1x1_p0_0_0 = BitVec.ofNat 32 (cntLe (ι := S64x8192.Idx) r (val (mid lo hi))) := by
  rw [← card_ole]
  unfold k0_pay2
  exact count_gen _ _ _ _ _ _ _ _

/-- The number 471860 as the constant's word denotes it. -/
theorem val_kept : Ideal.ofBits .f32 0x48E66680#32 = ((471860 : ℝ) : EReal) := by
  show Ideal.ieee 8 23 0x48E66680#32 = _
  simp [Ideal.ieee]
  rw [← EReal.coe_mul]
  norm_num

/-- The number of residuals. -/
theorem card_idx : Fintype.card S64x8192.Idx = 524288 := by
  rw [Fintype.card_congr S64x8192.rowMajor, Fintype.card_fin]
  rfl

/-- The final scalar at a threshold word. -/
theorem pay3_eq (w : BitVec 32) (r : Vec Ideal S64x8192 .f32) :
    k0_pay3 w r = Ideal.div ((∑ i : S64x8192.Idx, if r i < val w then r i else 0)
      + val w * (((471860 - (cntLt (ι := S64x8192.Idx) r (val w) : ℤ) : ℤ) : ℝ) : EReal)) ((471860 : ℝ) : EReal) := by
  have hle := cntLt_le_card (ι := S64x8192.Idx) r (val w)
  rw [card_idx] at hle
  unfold k0_pay3
  dsimp only
  refine (congrArg₂ Scalar.divf (congrArg₂ Scalar.addf (sum_gen (t := S1) _ _ _ _ _ _ _ _)
    (congrArg (fun c => Scalar.mulf (FloatOps.ofBits FTy.f32 w) (Scalar.sitofp FTy.f32 (Scalar.subi 471860#32 c)))
      (count_gen (t := S1) _ _ _ _ _ _ _ _))) rfl).trans ?_
  rw [show (FloatOps.ofBits FTy.f32 w : Ideal .f32) = val w from rfl, card_olt, sum_olt]
  have hsub : (Scalar.subi 471860#32 (BitVec.ofNat 32 (cntLt (ι := S64x8192.Idx) r (val w)))).toInt
      = 471860 - (cntLt (ι := S64x8192.Idx) r (val w) : ℤ) := by
    generalize cntLt (ι := S64x8192.Idx) r (val w) = n at hle
    show ((471860#32 : BitVec 32) - BitVec.ofNat 32 n).toInt = _
    rw [BitVec.toInt_eq_toNat_bmod, BitVec.toNat_sub, BitVec.toNat_ofNat, BitVec.toNat_ofNat]
    unfold Int.bmod
    dsimp only
    split <;> omega
  show Ideal.div ((∑ i : S64x8192.Idx, if r i < val w then r i else 0)
      + val w * ((((Scalar.subi 471860#32 (BitVec.ofNat 32 (cntLt (ι := S64x8192.Idx) r (val w)))).toInt : ℤ) : ℝ) : EReal))
      (Ideal.ofBits .f32 0x48E66680#32) = _
  rw [hsub, val_kept]

end Cert.Trim

end
-- ==== Proof.Search.lean ====
/-
  The search over words: after its 31 trips the interval has closed on the least word whose value enough residuals are at
  most.
-/
module

public import proofs.«01_k».proof.Proof.Payload

@[expose] public section

noncomputable section

open Idealize.ShloMosaic

namespace Cert.Trim

open Cert.KernelIdeal Cert.KernelIdeal.Gen

/-- Signed comparison of two words below 2³¹ is comparison of their numbers. -/
theorem sge_iff {a b : BitVec 32} (ha : a.toNat < 2 ^ 31) (hb : b.toNat < 2 ^ 31) :
    Scalar.cmpi .sge a b = 1#1 ↔ b.toNat ≤ a.toNat := by
  show BitVec.ofBool (b.sle a) = 1#1 ↔ _
  have e : b.sle a = decide (b.toNat ≤ a.toNat) := by
    unfold BitVec.sle
    rw [BitVec.toInt_eq_toNat_of_lt (by omega), BitVec.toInt_eq_toNat_of_lt (by omega)]
    exact decide_eq_decide.2 Int.ofNat_le
  rw [e, ofBool_one]

/-- The middle word: the lower end plus half the length, rounded down. -/
theorem mid_toNat {lo hi : BitVec 32} (h : lo.toNat ≤ hi.toNat) (hh : hi.toNat < 2 ^ 31) :
    (mid lo hi).toNat = lo.toNat + (hi.toNat - lo.toNat) / 2 := by
  have hd : (Scalar.subi hi lo).toNat = hi.toNat - lo.toNat := by
    show (hi - lo).toNat = _
    rw [BitVec.toNat_sub]
    omega
  have hq : (Scalar.divsi (Scalar.subi hi lo) 2#32).toNat = (hi.toNat - lo.toNat) / 2 :=
    (StableHlo.Predicate.divsi_two .scalar _ (by rw [hd]; omega)).trans (by rw [hd])
  have hc : Scalar.andi
      (Scalar.cmpi .ne (Scalar.subi (Scalar.extui (Scalar.cmpi .sgt (Scalar.subi hi lo) 0#32))
        (Scalar.extui (Scalar.cmpi .slt (Scalar.subi hi lo) 0#32))) 1#32)
      (Scalar.cmpi .ne (Scalar.remsi (Scalar.subi hi lo) 2#32) 0#32) ≠ 1 := by
    generalize hD : Scalar.subi hi lo = d at hd hq
    have hdl : d.toNat < 2 ^ 31 := by omega
    have hslt : Scalar.cmpi .slt d 0#32 = 0#1 := by
      show BitVec.ofBool (d.slt 0#32) = 0#1
      have : d.slt 0#32 = false := by
        unfold BitVec.slt
        rw [BitVec.toInt_eq_toNat_of_lt (by omega)]
        simp
      rw [this]; rfl
    rcases Nat.eq_zero_or_pos d.toNat with h0 | h0
    · have : d = 0#32 := BitVec.eq_of_toNat_eq h0
      subst this
      decide
    · have hsgt : Scalar.cmpi .sgt d 0#32 = 1#1 := by
        show BitVec.ofBool ((0#32).slt d) = 1#1
        have : (0#32).slt d = true := by
          unfold BitVec.slt
          rw [BitVec.toInt_eq_toNat_of_lt (x := d) (by omega)]
          simpa using h0
        rw [this]; rfl
      rw [hslt, hsgt]
      generalize Scalar.cmpi .ne (Scalar.remsi d 2#32) 0#32 = b
      revert b
      decide
  unfold mid
  dsimp only
  rw [Scalar.select, if_neg hc]
  show (lo + _).toNat = _
  rw [BitVec.toNat_add, hq]
  omega

variable (r : Vec Ideal S64x8192 .f32)

/-- How many residuals are at most the value of the word `w`. -/
def upTo (w : BitVec 32) : ℕ := cntLe (ι := S64x8192.Idx) r (val w)

/-- The count is at most the number of residuals. -/
theorem upTo_le (w : BitVec 32) : upTo r w ≤ 524288 := card_idx ▸ cntLe_le_card (ι := S64x8192.Idx) r (val w)

/-- A trip keeps the lower half when at least 471860 residuals are at most the middle word's value. -/
theorem trip_eq (lo hi : BitVec 32) :
    trip r (lo, hi) = if 471860 ≤ upTo r (mid lo hi) then (lo, mid lo hi) else (mid lo hi + 1#32, hi) := by
  have hle := upTo_le r (mid lo hi)
  have hb : Scalar.cmpi .sge (BitVec.ofNat 32 (upTo r (mid lo hi))) 471860#32 = 1#1 ↔ 471860 ≤ upTo r (mid lo hi) := by
    rw [sge_iff (by rw [BitVec.toNat_ofNat]; omega) (by decide), BitVec.toNat_ofNat, BitVec.toNat_ofNat]
    omega
  unfold trip
  dsimp only
  rw [pay2_eq, ← show upTo r (mid lo hi) = cntLe (ι := S64x8192.Idx) r (val (mid lo hi)) from rfl]
  by_cases h : 471860 ≤ upTo r (mid lo hi)
  · rw [if_pos h, hb.2 h]; rfl
  · have hn : ¬Scalar.cmpi .sge (BitVec.ofNat 32 (upTo r (mid lo hi))) 471860#32 = 1 := mt hb.1 h
    rw [if_neg h, Scalar.select, Scalar.select, if_neg hn, if_neg hn]; rfl

/-- What holds of the interval before trip `k`: its upper end is reached by enough residuals, no word below its lower end
    is, and its length is below `2^(31-k)`. -/
structure Inv (k : ℕ) (p : BitVec 32 × BitVec 32) : Prop where
  le : p.1.toNat ≤ p.2.toNat
  top : p.2.toNat ≤ infWord
  enough : 471860 ≤ upTo r p.2
  below : ∀ w : BitVec 32, w.toNat < p.1.toNat → upTo r w < 471860
  len : p.2.toNat - p.1.toNat < 2 ^ (31 - k)

/-- A larger word is reached by no fewer residuals. -/
theorem upTo_mono {a b : BitVec 32} (hab : a.toNat ≤ b.toNat) (hb : b.toNat ≤ infWord) : upTo r a ≤ upTo r b :=
  cntLe_mono r (val_mono hab hb)

/-- The search starts with its interval from 0 to the word of +inf: every residual is at most +inf. -/
theorem inv_zero : Inv r 0 (0#32, 2139095040#32) where
  le := Nat.zero_le _
  top := le_refl _
  enough := by
    have : upTo r 2139095040#32 = 524288 := by
      unfold upTo
      rw [val_inf, cntLe_top, card_idx]
    exact this ▸ by decide
  below w h := absurd h (Nat.not_lt_zero _)
  len := by decide

/-- A trip keeps the invariant and halves the bound on the length. -/
theorem inv_succ (k : ℕ) (hk : k < 31) (p : BitVec 32 × BitVec 32) (h : Inv r k p) : Inv r (k + 1) (trip r p) := by
  obtain ⟨lo, hi⟩ := p
  obtain ⟨hle, htop, hen, hbl, hlen⟩ := h
  dsimp only at hle htop hen hbl hlen
  unfold infWord at htop
  have hmid := mid_toNat hle (by omega)
  have hp : 2 ^ (31 - k) = 2 * 2 ^ (31 - (k + 1)) := by
    rw [← Nat.pow_succ']; congr 1; omega
  have hpos : 0 < 2 ^ (31 - (k + 1)) := Nat.two_pow_pos _
  rw [trip_eq]
  by_cases hc : 471860 ≤ upTo r (mid lo hi)
  · rw [if_pos hc]
    exact ⟨by dsimp only; omega, by unfold infWord; dsimp only; omega, hc, hbl, by dsimp only; omega⟩
  · have hne : (mid lo hi).toNat < hi.toNat := by
      by_contra hge
      have : mid lo hi = hi := BitVec.eq_of_toNat_eq (by omega)
      rw [this] at hc
      exact hc hen
    have hs : (mid lo hi + 1#32).toNat = (mid lo hi).toNat + 1 := by
      rw [BitVec.toNat_add]
      show ((mid lo hi).toNat + 1) % 2 ^ 32 = _
      omega
    rw [if_neg hc]
    refine ⟨by dsimp only; omega, by unfold infWord; dsimp only; omega, hen, fun w hw => ?_, by dsimp only; omega⟩
    dsimp only at hw
    have := upTo_mono r (a := w) (b := mid lo hi) (by omega) (by unfold infWord; omega)
    omega

/-- The invariant holds before every trip. -/
theorem inv_iter : ∀ k : ℕ, k ≤ 31 → Inv r k ((trip r)^[k] (0#32, 2139095040#32))
  | 0, _ => inv_zero r
  | k + 1, h => by
    rw [Function.iterate_succ_apply']
    exact inv_succ r k (by omega) _ (inv_iter k (by omega))

/-- The search's result: a word up to that of +inf, which enough residuals are at most, and no smaller word is. -/
theorem found_spec : (found r).toNat ≤ infWord ∧ 471860 ≤ upTo r (found r)
    ∧ ∀ w : BitVec 32, w.toNat < (found r).toNat → upTo r w < 471860 := by
  have h := inv_iter r 31 (le_refl _)
  unfold found
  generalize (trip r)^[31] (0#32, 2139095040#32) = p at h
  have hl := h.len
  have hle := h.le
  have e : p.1 = p.2 := BitVec.eq_of_toNat_eq (by omega)
  exact ⟨e ▸ h.top, e ▸ h.enough, h.below⟩

end Cert.Trim

end
-- ==== Proof.TopK.lean ====
/-
  The reference's selection over the extended reals: the largest entries of the negated residuals are the smallest
  residuals, in ascending order.
-/
module

public import proofs.«01_k».proof.Proof.Order
public import Idealize.ShloMosaic.PureOps.Ideal
public import Idealize.ShloMosaic.Lib.SortFacts
public import Idealize.ShloMosaic.Lib.Affine
public import Idealize.ShloMosaic.Lib.Pointwise.Reduce

@[expose] public section

noncomputable section

open Idealize.ShloMosaic
open scoped BigOperators

namespace Cert.Trim

section generic

variable {s : Shape} {N M : ℕ} (hc : s.ShapeCasts ⟨1, ![N]⟩) (r : s.Idx → EReal)

/-- The negated values, laid out as one row. -/
def row : FVec Ideal ⟨1, ![N]⟩ .f32 := Host.negf (F := Ideal) (φ := .f32) (shapeCast _ r hc)

/-- "The entry at `a` is greater than the entry at `b`", as the selection compares them. -/
def above (a b : Fin N) : Bool :=
  FloatOps.cmpfTotal (F := Ideal) (φ := .f32) .gt (row hc r (ix1 a)) (row hc r (ix1 b)) == 1#1

/-- The index of the value that the selection puts at position `k`. -/
def order (k : Fin N) : s.Idx := Shape.reshapeEquiv hc (ix1 (sortedFrom (above hc r) k))

/-- An entry of the row, read. -/
theorem row_ix1 (a : Fin N) : row hc r (ix1 a) = -r (Shape.reshapeEquiv hc (ix1 a)) := rfl

/-- The comparison is "the value at `a` is smaller". -/
theorem above_eq (a b : Fin N) :
    above hc r a b = decide (r (Shape.reshapeEquiv hc (ix1 a)) < r (Shape.reshapeEquiv hc (ix1 b))) := by
  unfold above
  rw [row_ix1, row_ix1]
  generalize r _ = x
  generalize r _ = y
  show (BitVec.ofBool (decide (-y < -x)) == 1#1) = _
  rw [decide_eq_decide.2 (EReal.neg_lt_neg_iff (a := y) (b := x))]
  cases decide (x < y) <;> rfl

/-- The selection's order runs through all indices, each once. -/
theorem order_bijective : Function.Bijective (order hc r) := by
  have h1 : Function.Bijective (ix1 : Fin N → (⟨1, ![N]⟩ : Shape).Idx) :=
    ⟨fun a b h => (ix1_inj a b).1 h, fun i => ⟨i 0, (eq_ix1 i).symm⟩⟩
  have h2 : Function.Bijective (sortedFrom (above hc r)) := ⟨sortedFrom_injective _, sortedFrom_surjective _⟩
  exact (Shape.reshapeEquiv hc).bijective.comp (h1.comp h2)

/-- The selection's order is ascending in the values. -/
theorem order_monotone : Monotone fun k => r (order hc r k) := by
  intro i j hij
  rcases hij.eq_or_lt with rfl | hlt
  · exact le_refl _
  · have h := sortedFrom_noInversion (above hc r) (above hc r)
      (fun a b h => by rw [above_eq] at h ⊢; exact decide_eq_false (of_decide_eq_true h).le.not_gt)
      (fun _ _ h => h)
      (fun a b c h h' => by
        rw [above_eq] at h h' ⊢
        exact decide_eq_false (not_lt.2 ((not_lt.1 (of_decide_eq_false h')).trans (not_lt.1 (of_decide_eq_false h)))))
      i j hlt
    rw [above_eq] at h
    exact not_lt.1 (of_decide_eq_false h)

/-- Position `k` of the selection holds the negated value of the index that comes `k`-th in the order. -/
theorem topK_ix1 (h : Shape.Slices ⟨1, ![N]⟩ (fun _ => 0) ⟨1, ![M]⟩) (hMN : M ≤ N) (k : Fin M) :
    (Host.topK ⟨1, ![M]⟩ 0 (FloatOps.cmpfTotal (F := Ideal) (φ := .f32) .gt) (row hc r) h).1 (ix1 k)
      = -r (order hc r (Fin.castLE hMN k)) := by
  have hd : 0 < (⟨1, ![N]⟩ : Shape).rank := Nat.zero_lt_one
  have e : ∀ (j : (⟨1, ![N]⟩ : Shape).Idx) (c : Fin N), j.along (⟨0, hd⟩ : Fin (⟨1, ![N]⟩ : Shape).rank) c = ix1 c := fun j c => by
    funext d
    match d with
    | ⟨0, _⟩ => exact Function.update_self ..
  have hk : (fun a : Fin (⟨1, ![N]⟩ : Shape).rank => (⟨0 + ((ix1 k : (⟨1, ![M]⟩ : Shape).Idx) (a.cast h.1.symm)).val,
      Nat.lt_of_lt_of_le (Nat.add_lt_add_left ((ix1 k : (⟨1, ![M]⟩ : Shape).Idx) _).isLt _) (h.2 a)⟩ : Fin ((⟨1, ![N]⟩ : Shape).size a)))
      = ix1 (Fin.castLE hMN k) := by
    funext d
    match d with
    | ⟨0, _⟩ => exact Fin.ext (Nat.zero_add _)
  unfold Host.topK
  dsimp only
  unfold extractStridedSlice
  rw [hk]
  unfold Host.sort2
  rw [dif_pos hd]
  dsimp only
  have hb : (fun a b : Fin N => FloatOps.cmpfTotal (F := Ideal) (φ := .f32) .gt
        (row hc r ((ix1 (Fin.castLE hMN k)).along (⟨0, hd⟩ : Fin (⟨1, ![N]⟩ : Shape).rank) a))
        (row hc r ((ix1 (Fin.castLE hMN k)).along (⟨0, hd⟩ : Fin (⟨1, ![N]⟩ : Shape).rank) b)) == 1#1) = above hc r := by
    funext a b
    exact congrArg₂ (fun x y => FloatOps.cmpfTotal (F := Ideal) (φ := .f32) .gt (row hc r x) (row hc r y) == 1#1) (e _ a) (e _ b)
  exact (congrArg (row hc r) (e _ _)).trans
    (congrArg (fun B => row hc r (ix1 (sortedFrom B (Fin.castLE hMN k)))) hb)

/-- The sum of the first `p + 1` terms, as a sum over positions up to `p`. -/
theorem sum_first {N M : ℕ} (f : Fin N → EReal) (hMN : M ≤ N) (p : Fin N) (hp : p.val + 1 = M) :
    ∑ k : Fin M, f (Fin.castLE hMN k) = ∑ j ∈ Finset.Iic p, f j := by
  refine Finset.sum_bij (fun k _ => Fin.castLE hMN k) (fun k _ => ?_) (fun a _ b _ h => ?_) (fun j hj => ?_) (fun _ _ => rfl)
  · rw [Finset.mem_Iic, Fin.le_def, Fin.val_castLE]; omega
  · exact Fin.ext (congrArg (fun i : Fin N => i.val) h)
  · rw [Finset.mem_Iic, Fin.le_def] at hj
    exact ⟨⟨j.val, by omega⟩, Finset.mem_univ _, rfl⟩

/-- The selected entries, negated back and summed from 0: the sum of the `M` smallest values. -/
theorem sum_topK {t u : Shape} (h : Shape.Slices ⟨1, ![N]⟩ (fun _ => 0) ⟨1, ![M]⟩) (hMN : M ≤ N) (p : Fin N) (hp : p.val + 1 = M)
    (hr : Shape.ReducesTo ⟨1, ![M]⟩ [0] t) (hu : 0 < u.numel) (j : t.Idx) :
    Host.reduceAdd (F := Ideal) (φ := .f32)
        (Host.negf (F := Ideal) (φ := .f32) (Host.topK ⟨1, ![M]⟩ 0 (FloatOps.cmpfTotal (F := Ideal) (φ := .f32) .gt) (row hc r) h).1)
        (constant (F := Ideal) u .f32 0x00000000#32) hr hu j
      = ∑ k ∈ Finset.Iic p, r (order hc r k) := by
  refine (Ideal.hostReduceAdd_r1_a0 hr _ _ j).trans ?_
  rw [← sum_first _ hMN p hp]
  have h0 : (constant (F := Ideal) u .f32 0x00000000#32) (Shape.Idx.first hu) = (0 : EReal) := by
    show Ideal.ofBits .f32 0x00000000#32 = 0
    simp [Ideal.ofBits, Ideal.ieee]
  rw [h0, zero_add]
  refine Finset.sum_congr rfl fun k _ => ?_
  show -(Host.topK ⟨1, ![M]⟩ 0 (FloatOps.cmpfTotal (F := Ideal) (φ := .f32) .gt) (row hc r) h).1 (ix1 k) = _
  rw [topK_ix1 hc r h hMN k, neg_neg]

end generic

section any

/-- A left fold by "or" over bits, from 0, that came out 1 met a 1. -/
theorem exists_of_foldl_ori {ι : Type} (f : ι → BitVec 1) :
    ∀ (l : List ι) (init : BitVec 1), l.foldl (fun r n => IntOp.ori r (f n)) init = 1#1 → init = 1#1 ∨ ∃ n, f n = 1#1
  | [], _, h => .inl h
  | a :: l, init, h => by
    rcases exists_of_foldl_ori f l _ h with h1 | h1
    · rcases IntOp.ori_eq_one.1 h1 with h2 | h2
      · exact .inl h2
      · exact .inr ⟨a, h2⟩
    · exact .inr h1

/-- A reduction by "or" from 0 that is 1 had a 1 at some index. -/
theorem exists_of_reduce_ori {s t u : Shape} {axes : List (Fin s.rank)} (x : s.Idx → BitVec 1) (h : s.ReducesTo axes t)
    (hu : 0 < u.numel) (j : t.Idx) (e : Host.reduce IntOp.ori x (constantI u 1 0#1) h hu j = 1#1) : ∃ i, x i = 1#1 := by
  rw [Host.reduce_eq_foldl] at e
  exact (exists_of_foldl_ori x _ _ e).resolve_left (by show ¬(0#1 : BitVec 1) = 1#1; decide)

end any

end Cert.Trim

end
-- ==== Proof.Value.lean ====
/-
  The value claim's content: under the precondition the kernel's final scalar is the reference's.
-/
module

public import proofs.«01_k».proof.Proof.Search
public import proofs.«01_k».proof.Proof.TopK
public import proofs.«01_k».proof.Proof.Gen.Pre_threshold_is_a_float32

@[expose] public section

noncomputable section

open Idealize.ShloMosaic
open scoped BigOperators

namespace Cert.Trim

open Cert.KernelIdeal Cert.KernelIdeal.Gen

/-- The position of the largest residual kept. -/
abbrev lastKept : Fin 524288 := ⟨471859, by norm_num⟩

/-- What the precondition says: the largest residual kept, the one at position 471859 in ascending order, is the value of a
    word from 0 up to that of +inf. -/
theorem pre_word (x0 x1 : Vec Ideal S64x8192 .f32) (hc : S64x8192.ShapeCasts ⟨1, ![524288]⟩)
    (h : Cert.Pre_threshold_is_a_float32.fn (F := Ideal) x0 x1 = fun _ => 1#1) :
    ∃ w : BitVec 32, w.toNat ≤ infWord ∧ val w = resid x0 x1 (order hc (resid x0 x1) lastKept) := by
  have h0 := congrFun h (fun a => a.elim0)
  unfold Cert.Pre_threshold_is_a_float32.fn at h0
  dsimp only at h0
  obtain ⟨i, hi⟩ := exists_of_reduce_ori _ _ _ _ h0
  refine ⟨BitVec.ofNat 32 (i 0).val, ?_, ?_⟩
  · have : (i 0).val < 2139095041 := (i 0).isLt
    rw [BitVec.toNat_ofNat]
    unfold infWord
    omega
  · have hi' : BitVec.ofBool (decide (val (BitVec.ofNat 32 (i 0).val)
        = -((Host.topK ⟨1, ![471860]⟩ 0 (FloatOps.cmpfTotal (F := Ideal) (φ := .f32) .gt) (row hc (resid x0 x1))
            Cert.Pre_threshold_is_a_float32.Gen.sliceFits_S524288_S471860).1 (ix1 ⟨471859, by norm_num⟩) : EReal))) = 1#1 := by
      refine (congrArg (fun k => BitVec.ofBool (decide (val (BitVec.ofNat 32 (i 0).val)
        = -((Host.topK ⟨1, ![471860]⟩ 0 (FloatOps.cmpfTotal (F := Ideal) (φ := .f32) .gt) (row hc (resid x0 x1))
            Cert.Pre_threshold_is_a_float32.Gen.sliceFits_S524288_S471860).1 k : EReal)))) ?_).trans hi
      funext d
      match d with
      | ⟨0, _⟩ => exact Fin.ext (by
          exact congrArg (471859 + ·) (Nat.lt_one_iff.1 (Fin.isLt _)).symm)
    rw [topK_ix1 hc (resid x0 x1) _ (by norm_num), neg_neg] at hi'
    exact ofBool_one.1 hi'

/-- The search finds the largest residual kept, when that is the value of a word. -/
theorem val_found (r : Vec Ideal S64x8192 .f32) (hc : S64x8192.ShapeCasts ⟨1, ![524288]⟩)
    (h : ∃ w : BitVec 32, w.toNat ≤ infWord ∧ val w = r (order hc r lastKept)) :
    val (found r) = r (order hc r lastKept) := by
  obtain ⟨w, hw, hv⟩ := h
  obtain ⟨hf, hen, hbl⟩ := found_spec r
  have hm := pos_lt_cntLe (order_bijective hc r) (order_monotone hc r) lastKept
  have hle : (found r).toNat ≤ w.toNat := by
    by_contra hlt
    have := hbl w (not_le.1 hlt)
    unfold upTo at this
    rw [hv] at this
    exact absurd this (not_lt.2 hm)
  exact eq_of_cntLe (order_bijective hc r) (order_monotone hc r) lastKept hen (hv ▸ val_mono hle hw)

/-- The threshold times the number of residuals kept that are not below it, as a product and as a repeated sum. -/
theorem kept_mul (p : Fin 524288) (hp : p.val = 471859) (S t : EReal) (c : ℕ) (hc : c ≤ p.val) :
    S + t * (((471860 - (c : ℤ) : ℤ) : ℝ) : EReal) = S + (p.val + 1 - c) • t := by
  rw [EReal.nsmul_eq_mul, mul_comm]
  have e : (471860 - (c : ℤ) : ℤ) = ((p.val + 1 - c : ℕ) : ℤ) := by omega
  rw [e]
  simp

/-- The kernel's final scalar: the sum of the 471860 smallest residuals over their number. -/
theorem kernel_value (r : Vec Ideal S64x8192 .f32) (hc : S64x8192.ShapeCasts ⟨1, ![524288]⟩)
    (h : ∃ w : BitVec 32, w.toNat ≤ infWord ∧ val w = r (order hc r lastKept)) :
    k0_pay3 (found r) r = Ideal.div (∑ k ∈ Finset.Iic lastKept, r (order hc r k)) ((471860 : ℝ) : EReal) := by
  have hle := cntLt_le_pos (order_bijective hc r) (order_monotone hc r) lastKept
  have hs := sum_le_pos (order_bijective hc r) (order_monotone hc r) lastKept
  rw [pay3_eq, val_found r hc h, hs, kept_mul lastKept rfl _ _ _ hle]

/-- The reference's result: the sum of the 471860 smallest residuals over their number. -/
theorem reference_value (r : Vec Ideal S64x8192 .f32) (hc : S64x8192.ShapeCasts ⟨1, ![524288]⟩)
    (h : Shape.Slices ⟨1, ![524288]⟩ (fun _ => 0) ⟨1, ![471860]⟩) (hr : Shape.ReducesTo ⟨1, ![471860]⟩ [0] S_) (hu : 0 < S_.numel) :
    Host.divf (F := Ideal) (φ := .f32) (Host.reduceAdd (F := Ideal) (φ := .f32)
        (Host.negf (F := Ideal) (φ := .f32)
          (Host.topK ⟨1, ![471860]⟩ 0 (FloatOps.cmpfTotal (F := Ideal) (φ := .f32) .gt) (row hc r) h).1)
        (constant (F := Ideal) S_ .f32 0x00000000#32) hr hu) (constant (F := Ideal) S_ .f32 0x48E66680#32)
      = fun _ => Ideal.div (∑ k ∈ Finset.Iic lastKept, r (order hc r k)) ((471860 : ℝ) : EReal) := by
  funext j
  exact congrArg₂ Ideal.div (sum_topK hc r h (by norm_num) lastKept rfl hr hu j) val_kept

end Cert.Trim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_threshold_is_a_float32
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and, having no semaphore, ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Under the precondition the kernel and the reference, run on the same arguments over the extended reals, end with the
    same result, the sum of the 471860 smallest residuals over their number, and with their arguments unchanged. -/
theorem value : Cert.algebraic_KernelIdeal_ReferenceIdeal_pre_threshold_is_a_float32
    (hKernelIdeal := Cert.KernelIdeal.Gen.facts) (hReferenceIdeal := Cert.ReferenceIdeal.Gen.facts)
    (hPre_threshold_is_a_float32 := Cert.Pre_threshold_is_a_float32.Gen.facts) := by
  intro m g m' g' hpre hargs
  refine ⟨fun c => fun _ => Cert.KernelIdeal.Gen.k0_pay3 (Cert.Trim.found (Cert.Trim.res m c)) (Cert.Trim.res m c),
    Cert.Trim.kernel_run m g, (θ_run Cert.ReferenceIdeal.defs _ _).mono (fun r h c => ?_) (Cert.ReferenceIdeal.Value.run (F := Ideal) m' g')⟩
  obtain ⟨h6, h0, h1⟩ := h c
  refine ⟨h6.trans ?_, h0, h1⟩
  rw [(hargs c).1, (hargs c).2]
  have hw := Cert.Trim.pre_word _ _ Cert.ReferenceIdeal.Gen.shapeCasts_S64x8192_S524288 (hpre c)
  refine (Cert.Trim.reference_value (Cert.Trim.res m c) Cert.ReferenceIdeal.Gen.shapeCasts_S64x8192_S524288
    Cert.ReferenceIdeal.Gen.sliceFits_S524288_S471860 Cert.ReferenceIdeal.Gen.reducesTo_S471860_S_d0 Cert.ReferenceIdeal.Gen.h_S_).trans ?_
  funext _
  exact (Cert.Trim.kernel_value (Cert.Trim.res m c) _ hw).symm

/-- All the claims: the frames of the three programs, that the idealization rewrites nothing, and the equality of the
    results. -/
theorem claim : Cert.Claim := ⟨Cert.Kernel.Gen.facts, Cert.KernelIdeal.Gen.facts, Cert.ReferenceIdeal.Gen.facts, Cert.Pre_threshold_is_a_float32.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, value⟩

end Cert.Proof

end
